-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_in_range [hPre_segments_in_range : Cert.Pre_segments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_in_range [hPre_segments_in_range : Cert.Pre_segments_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_segments_in_range [hKernelIdeal : Cert.KernelIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_segments_in_range [hReferenceIdeal : Cert.ReferenceIdeal.Facts] [hPre_segments_in_range : Cert.Pre_segments_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_segments_in_range [hKernelIdeal : Cert.KernelIdeal.Facts] [hReferenceIdeal : Cert.ReferenceIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_segments_in_range : Cert.Pre_segments_in_range.Facts),
    quiescent_Kernel (hKernel := hKernel)
    ∧ quiescent_KernelIdeal (hKernelIdeal := hKernelIdeal)
    ∧ quiescent_KernelIdeal_pre_segments_in_range (hKernelIdeal := hKernelIdeal) (hPre_segments_in_range := hPre_segments_in_range)
    ∧ quiescent_ReferenceIdeal (hReferenceIdeal := hReferenceIdeal)
    ∧ quiescent_ReferenceIdeal_pre_segments_in_range (hReferenceIdeal := hReferenceIdeal) (hPre_segments_in_range := hPre_segments_in_range)
    ∧ preserves_Kernel_KernelIdeal
    ∧ algebraic_KernelIdeal_ReferenceIdeal_pre_segments_in_range (hKernelIdeal := hKernelIdeal) (hReferenceIdeal := hReferenceIdeal) (hPre_segments_in_range := hPre_segments_in_range)
-- ==== Pre_segments_in_range.lean ====
abbrev S6400000x1 : Shape := ⟨2, ![6400000, 1]⟩
abbrev S4096 : Shape := ⟨1, ![4096]⟩
abbrev S6400000 : Shape := ⟨1, ![6400000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : FVec F S6400000x1 .f32) (main_arg1 : FVec F S6400000x1 .f32) (main_arg2 : FVec F S4096 .f32) (main_arg3 : IVec S4096 32) (main_arg4 : IVec S6400000 32) : IVec S_ 1 :=
  let main_c : IVec S_ 32 := constantI S_ 32 0#32
  let main_v0 : IVec S6400000 32 := broadcastInDim S6400000 ![] bcast_S_S6400000 main_c
  let main_v1 : IVec S6400000 1 := cmpi .sge main_arg4 main_v0
  let main_c_0 : IVec S_ 32 := constantI S_ 32 4096#32
  let main_v2 : IVec S6400000 32 := broadcastInDim S6400000 ![] bcast_S_S6400000 main_c_0
  let main_v3 : IVec S6400000 1 := cmpi .slt main_arg4 main_v2
  let main_v4 : IVec S6400000 1 := andi main_v1 main_v3
  let main_c_1 : IVec S_ 1 := constantI S_ 1 1#1
  let main_v5 : IVec S_ 1 := (fun x v => Host.reduce IntOp.andi x v reducesTo_S6400000_S_d0 h_S_) main_v4 main_c_1
  main_v5
-- ==== Kernel.lean ====
abbrev S6400000x1 : Shape := ⟨2, ![6400000, 1]⟩
abbrev S4096 : Shape := ⟨1, ![4096]⟩
abbrev S6400000 : Shape := ⟨1, ![6400000]⟩
abbrev S50000x128 : Shape := ⟨2, ![50000, 128]⟩
abbrev S32x128 : Shape := ⟨2, ![32, 128]⟩
abbrev S1x1 : Shape := ⟨2, ![1, 1]⟩
abbrev S10000x128 : Shape := ⟨2, ![10000, 128]⟩
abbrev S1 : Shape := ⟨1, ![1]⟩
abbrev S1x10000x128 : Shape := ⟨3, ![1, 10000, 128]⟩
abbrev S1x1x1 : Shape := ⟨3, ![1, 1, 1]⟩
abbrev S1x32x128 : Shape := ⟨3, ![1, 32, 128]⟩
abbrev S_ : Shape := ⟨0, ![]⟩

abbrev nBuf : Space → Nat
  | .hbm => 11
  | .vmem => 6
  | .smem => 2
  | _ => 0

abbrev bufTy : (tb : Table) → Fin (tcTables nBuf tb) → BufTy
  | .hbm, ⟨0, _⟩ => ⟨S6400000x1, .f32⟩
  | .hbm, ⟨1, _⟩ => ⟨S6400000x1, .f32⟩
  | .hbm, ⟨2, _⟩ => ⟨S4096, .f32⟩
  | .hbm, ⟨3, _⟩ => ⟨S4096, .i32⟩
  | .hbm, ⟨4, _⟩ => ⟨S6400000, .i32⟩
  | .hbm, ⟨5, _⟩ => ⟨S50000x128, .f32⟩
  | .hbm, ⟨6, _⟩ => ⟨S50000x128, .f32⟩
  | .hbm, ⟨7, _⟩ => ⟨S32x128, .f32⟩
  | .hbm, ⟨8, _⟩ => ⟨S32x128, .i32⟩
  | .hbm, ⟨9, _⟩ => ⟨S1x1, .f32⟩
  | .hbm, ⟨10, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S32x128, .f32⟩
  | .local _ .vmem, ⟨5, _⟩ => ⟨S32x128, .i32⟩
  | .local _ .smem, ⟨0, _⟩ => ⟨S1x1, .f32⟩
  | .local _ .smem, ⟨1, _⟩ => ⟨S1, .f32⟩
  | _, _ => ⟨S6400000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v18 : BitVec 1 := Scalar.cmpi .eq arg0 c4_i32
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S6400000x1 : Shape := ⟨2, ![6400000, 1]⟩
abbrev S4096 : Shape := ⟨1, ![4096]⟩
abbrev S6400000 : Shape := ⟨1, ![6400000]⟩
abbrev S_ : Shape := ⟨0, ![]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S6400000x1, .f32⟩
  | .hbm, ⟨1, _⟩ => ⟨S6400000x1, .f32⟩
  | .hbm, ⟨2, _⟩ => ⟨S4096, .f32⟩
  | .hbm, ⟨3, _⟩ => ⟨S4096, .i32⟩
  | .hbm, ⟨4, _⟩ => ⟨S6400000, .i32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S6400000x1, .f32⟩
  | .hbm, ⟨22, _⟩ => ⟨S6400000x1, .f32⟩
  | .hbm, ⟨23, _⟩ => ⟨S6400000x1, .f32⟩
  | .hbm, ⟨24, _⟩ => ⟨S6400000x1, .f32⟩
  | .hbm, ⟨25, _⟩ => ⟨S6400000x1, .f32⟩
  | .hbm, ⟨26, _⟩ => ⟨S6400000x1, .f32⟩
  | .hbm, ⟨27, _⟩ => ⟨S_, .f32⟩
  | .hbm, ⟨28, _⟩ => ⟨S4096x1, .f32⟩
  | .hbm, ⟨29, _⟩ => ⟨S6400000x1, .i32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S6400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Segments.lean ====
/- The precondition read at one element, and where the reference's scatter puts each sample under it. -/
module

public import proofs.«01_k».proof.Pre_segments_in_range
public import proofs.«01_k».proof.Proof.Gen.ReferenceIdeal
public import Idealize.ShloMosaic.Lib.ReduceAll
public import Idealize.ShloMosaic.Lib.IdealHost
public import Idealize.ShloMosaic.Lib.Pipeline.Value
public import Idealize.ShloMosaic.Lib.Routing.OpsPair

@[expose] public section

noncomputable section

namespace Cert.Segments

open Idealize.ShloMosaic Idealize.ShloMosaic.ValueIdx Cert.ReferenceIdeal Cert.ReferenceIdeal.Gen

/-- The shape relations the precondition's function states. -/
theorem pre_facts : Cert.Pre_segments_in_range.Facts where
  bcast_S_S6400000 := by decide
  reducesTo_S6400000_S_d0 := by decide
  h_S_ := by decide

/-- A scalar's shape has one index. -/
theorem scalar_only : Subsingleton Cert.Pre_segments_in_range.S_.Idx := ⟨fun _ _ => funext fun a => a.elim0⟩

/-- Every segment id lies in the table: it is at least 0 and less than 4096. -/
def InRange (b : IVec S6400000 32) : Prop := ∀ i, 0 ≤ (b i).toInt ∧ (b i).toInt < 4096

/-- The precondition's function is one only when every segment id lies in the table. -/
theorem inRange_of_pre [Cert.Pre_segments_in_range.Facts] (x y : FVec Ideal S6400000x1 .f32) (l : FVec Ideal S4096 .f32) (z : IVec S4096 32)
    (b : IVec S6400000 32) (h : Cert.Pre_segments_in_range.fn (F := Ideal) x y l z b = fun _ => 1#1) : InRange b := by
  intro i
  have h1 := congrFun h ix0
  dsimp only [Cert.Pre_segments_in_range.fn] at h1
  haveI := scalar_only
  have h2 := Host.reduce_andi_all _ _ _ _ _ h1 i
  obtain ⟨hge, hlt⟩ := IntOp.andi_eq_one.1 h2
  replace hge : BitVec.ofBool (BitVec.sle 0#32 (b i)) = 1#1 := hge
  replace hlt : BitVec.ofBool (BitVec.slt (b i) 4096#32) = 1#1 := hlt
  have o : (1#1 : BitVec 1) = BitVec.ofBool true := rfl
  rw [o, BitVec.ofBool_eq_iff_eq] at hge hlt
  rw [BitVec.sle_iff_toInt_le] at hge
  rw [BitVec.slt_iff_toInt_lt] at hlt
  exact ⟨hge, hlt⟩

/-- The position of sample `j` in the one-axis array of segment ids. -/
def sample (j : S6400000x1.Idx) : S6400000.Idx := ix1 (j 0)

/-- The table row sample `j` belongs to. -/
def seg (b : IVec S6400000 32) (hb : InRange b) (j : S6400000x1.Idx) : S4096x1.Idx :=
  ix2 ⟨(b (sample j)).toInt.toNat, by have := hb (sample j); omega⟩ (0 : Fin 1)

/-- The segment ids as the scatter reads them: sample `j`'s own. -/
theorem ids_apply (b : IVec S6400000 32) (j : S6400000x1.Idx) :
    broadcastInDim S6400000x1 ![0] bcast_S6400000_S6400000x1_0 b j = b (sample j) :=
  broadcastInDim_apply _ _ b j (sample j) fun a => match a with | ⟨0, _⟩ => rfl

/-- On the table's row axis sample `j`'s update starts at its segment id. -/
theorem start_row (b : IVec S6400000x1 32) (j : S6400000x1.Idx) :
    scatter_S4096x1_S6400000x1_S6400000x1_1_0_0_1.start j b 0 = (b (ix2 (j 0) (0 : Fin 1))).toInt := by
  unfold ScatterDims.start
  rw [dif_pos (by decide)]
  refine congrArg (fun k => (b k).toInt) (funext fun a => Fin.ext ?_)
  match a with
  | ⟨0, _⟩ => rfl
  | ⟨1, _⟩ => rfl

/-- Sample `j`'s update lands in row `seg j`, and only there. -/
theorem lands (b : IVec S6400000 32) (hb : InRange b) (j : S6400000x1.Idx) (k : S4096x1.Idx) :
    scatter_S4096x1_S6400000x1_S6400000x1_1_0_0_1.resultIdx? j (broadcastInDim S6400000x1 ![0] bcast_S6400000_S6400000x1_0 b) = some k
      ↔ seg b hb j = k := by
  have hj := hb (sample j)
  have e0 : scatter_S4096x1_S6400000x1_S6400000x1_1_0_0_1.start j (broadcastInDim S6400000x1 ![0] bcast_S6400000_S6400000x1_0 b) 0
      = (b (sample j)).toInt := by rw [start_row, ids_apply]; rfl
  have e1 : scatter_S4096x1_S6400000x1_S6400000x1_1_0_0_1.start j (broadcastInDim S6400000x1 ![0] bcast_S6400000_S6400000x1_0 b) 1 = 0 := rfl
  have w0 : scatter_S4096x1_S6400000x1_S6400000x1_1_0_0_1.window j 0 = 0 := rfl
  have w1 : scatter_S4096x1_S6400000x1_S6400000x1_1_0_0_1.window j 1 = 0 := by
    have : (j 1).val < 1 := (j 1).isLt
    show (j 1).val = 0
    omega
  have k1 : (k 1).val < 1 := (k 1).isLt
  rw [Routing.resultIdx?_eq_some]
  constructor
  · intro h
    have h0 := h 0
    rw [e0, w0] at h0
    refine funext fun a => Fin.ext ?_
    match a with
    | ⟨0, _⟩ =>
      show (b (sample j)).toInt.toNat = (k 0).val
      omega
    | ⟨1, _⟩ =>
      show 0 = (k 1).val
      omega
  · rintro rfl a
    match a with
    | ⟨0, _⟩ =>
      show _ + _ = (((b (sample j)).toInt.toNat : ℕ) : Int)
      erw [e0, w0]
      omega
    | ⟨1, _⟩ =>
      show _ + _ = ((0 : ℕ) : Int)
      erw [e1, w1]
      rfl

end Cert.Segments

end
-- ==== Proof.BlockValue.lean ====
/-
  What ONE grid point of the kernel leaves behind, as a value: the one-word accumulator after each of the three cases of
  the kernel's two conditionals (first point, middle point, last point), and the one-word output after the last point.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Block

open Cert.KernelIdeal Cert.KernelIdeal.Gen

variable {F : FTy → Type} [FloatOps F]

/-- The zero offsets of a two-axis rectangle, as the constant function. -/
theorem offsets₂ : (![0, 0] : Fin 2 → Nat) = fun _ => 0 := funext fun a => by fin_cases a <;> rfl

/-- The zero offset of a one-axis rectangle, as the constant function. -/
theorem offsets₁ : (![0] : Fin 1 → Nat) = fun _ => 0 := funext fun a => by fin_cases a; rfl

/-- The only index of a one-word array. -/
abbrev word : S1.Idx := fun a => match a with | ⟨0, _⟩ => (0 : Fin 1)

/-- A one-word array has one index. -/
theorem word_only (j : S1.Idx) : j = word := by
  funext a
  match a with
  | ⟨0, h⟩ => exact Subsingleton.elim (α := Fin 1) _ _

/-- Reading the accumulator's word as a one-word rectangle at offset zero reads that word. -/
theorem ld_word (acc : Vec F S1 .f32) (j : (Rect.unit (s := S1) ![0] S1.size inb_S1_S1_0).shape.Idx) :
    View.ld acc (Rect.unit (s := S1) ![0] S1.size inb_S1_S1_0) j = acc word := by
  rw [View.ld_unit_zero (S := S1) offsets₁]
  exact congrArg acc (word_only j)

section Cases

variable (c : Dev nD) (i : grid0.Coords)
  (a1 : Memref sig .tc .vmem S10000x128 .f32) (h1 : a1.IsWhole) (a2 : Memref sig .tc .vmem S10000x128 .f32) (h2 : a2.IsWhole)
  (a3 : Memref sig .tc .vmem S32x128 .f32) (h3 : a3.IsWhole) (a4 : Memref sig .tc .vmem S32x128 .i32) (h4 : a4.IsWhole)
  (a5 : Memref sig .tc .smem S1x1 .f32) (h5 : a5.IsWhole) (a6 : Memref sig .tc .smem S1 .f32) (h6 : a6.IsWhole)
  (x0 x1 : Vec F S10000x128 .f32) (x2 : Vec F S32x128 .f32) (x3 : Vec F S32x128 .i32) (acc : Vec F S1 .f32)

/-- A middle point leaves in the accumulator its old word plus this block's sum. -/
theorem acc_middle (hc0 : ¬cond0_0 i) (hc1 : ¬cond0_1 i) :
    sout0_B_0 c i a1 h1 a2 h2 a3 h3 a4 h4 a5 h5 a6 h6 hc0 hc1 x0 x1 x2 x3 acc = fun _ => k0_pay1 x0 x1 (acc word) := by
  unfold sout0_B_0
  rw [View.read_writes_eq_canon _ _ _ (scover0_B_0 c i a1 h1 a2 h2 a3 h3 a4 h4 a5 h5 a6 h6 hc0 hc1 x0 x1 x2 x3 acc)]
  unfold kernelRun0_B
  dsimp only
  sl_unfold_words
  rw [View.canon_unit_zero offsets₁]
  simp only [View.readAt_eq_ld, h1.read_unread, h2.read_unread, h6.read_unread, View.ld_unit_zero (S := S10000x128) offsets₂]
  exact funext fun _ => congrArg (k0_pay1 x0 x1) (ld_word acc _)

/-- The first point clears the accumulator, then leaves in it zero plus this block's sum. -/
theorem acc_first (hc0 : cond0_0 i) (hc1 : ¬cond0_1 i) :
    sout0_A_0 c i a1 h1 a2 h2 a3 h3 a4 h4 a5 h5 a6 h6 hc0 hc1 x0 x1 x2 x3 = fun _ => k0_pay1 x0 x1 (Scalar.ofBits .f32 0x00000000#32) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1) offsets₁]
  simp only [View.readAt_eq_ld, h1.read_unread, h2.read_unread, h6.read_unread, View.ld_unit_zero (S := S10000x128) offsets₂]
  rfl

/-- The last point adds its block's sum to the accumulator's old word and leaves in the output the finished loss. -/
theorem out_last (hc0 : ¬cond0_0 i) (hc1 : cond0_1 i) :
    out0_C_4 c i a1 h1 a2 h2 a3 h3 a4 h4 a5 h5 a6 h6 hc0 hc1 x0 x1 x2 x3 acc
      = fun _ => k0_pay2 x2 x3 (k0_pay1 x0 x1 (acc word)) := by
  unfold out0_C_4
  rw [View.read_writes_eq_canon _ _ _ (cover0_C_4 c i a1 h1 a2 h2 a3 h3 a4 h4 a5 h5 a6 h6 hc0 hc1 x0 x1 x2 x3 acc)]
  unfold kernelRun0_C
  dsimp only
  sl_unfold_words
  rw [View.canon_unit_zero offsets₂]
  simp only [View.readAt_eq_ld, h1.read_unread, h2.read_unread, h3.read_unread, h4.read_unread, h6.read_unread, View.ld_unit_zero (S := S10000x128) offsets₂, View.ld_unit_zero (S := S32x128) offsets₂]
  exact funext fun _ => congrArg (fun y => k0_pay2 x2 x3 (k0_pay1 x0 x1 y)) (ld_word acc _)

end Cases

end Cert.KernelIdeal.Block

end
-- ==== Proof.KernelValue.lean ====
/-
  What the kernel's whole run leaves in its result: the five grid points in order feed one accumulator word, the last
  point turns it into the loss, and the program hands that one word back as a scalar.
-/
module

public import proofs.«01_k».proof.Proof.BlockValue
public import Idealize.ShloMosaic.Lib.StableHlo.Run

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Block

variable {F : FTy → Type} [FloatOps F]
variable (m : (ℓ : Loc nD τ sig) → Buf (Elt F) ℓ) (ρ : Dev nD → PrngReg)

/-- The accumulator's word after grid point `n`: zero plus the first block's sum, then one block's sum more per point. -/
def total (c : Dev nD) : (n : ℕ) → n < cfg0.N → F .f32
  | 0, h => k0_pay1 (iblk m c 0 ⟨0, h⟩) (iblk m c 1 ⟨0, h⟩) (Scalar.ofBits .f32 0x00000000#32)
  | n + 1, h => k0_pay1 (iblk m c 0 ⟨n + 1, h⟩) (iblk m c 1 ⟨n + 1, h⟩) (total c n (Nat.lt_of_succ_lt h))

/-- Up to the last point but one, the accumulator the run carries holds exactly that word. -/
theorem carried (c : Dev nD) : ∀ (n : ℕ) (h : n < cfg0.N), n < 4 → (outsAt0 m c n h).2 = fun _ => total m c n h
  | 0, h, _ => by
    rw [outsAt0_A m c ⟨0, h⟩ rfl (by decide : ¬(0 % 5 = 4))]
    dsimp only
    exact acc_first (F := F) ..
  | n + 1, h, h4 => by
    have ih := carried c n (Nat.lt_of_succ_lt h) (by omega)
    have e0 : ¬((⟨n + 1, h⟩ : Fin cfg0.N).val % 5 = 0) := by dsimp only; omega
    have e1 : ¬((⟨n + 1, h⟩ : Fin cfg0.N).val % 5 = 4) := by dsimp only; omega
    rw [outsAt0_B m c ⟨n + 1, h⟩ e0 e1]
    dsimp only
    refine (acc_middle (F := F) ..).trans ?_
    funext _
    show k0_pay1 _ _ ((outsAt0 m c n _).2 word) = k0_pay1 _ _ (total m c n _)
    rw [ih]

/-- There are five grid points, so the last is point 4. -/
theorem last_lt : 4 < cfg0.N := by rw [show cfg0.N = 5 from N_0]; decide

/-- The last grid point. -/
abbrev last : Fin cfg0.N := ⟨4, last_lt⟩

/-- The loss: the last point's word over the whole logits and labels and the accumulator's final word. -/
def loss (c : Dev nD) : F .f32 := k0_pay2 (iblk m c 2 last) (iblk m c 3 last) (total m c 4 last_lt)

/-- The last point leaves the loss in the output's staging word. -/
theorem staged (c : Dev nD) : (outsAt0 m c 4 last_lt).1 = fun _ => loss m c := by
  rw [outsAt0_C m c last (by decide : ¬(4 % 5 = 0)) (by decide : 4 % 5 = 4)]
  dsimp only
  refine (out_last (F := F) ..).trans ?_
  funext _
  show k0_pay2 _ _ (k0_pay1 _ _ ((outsAt0 m c 3 _).2 word)) = _
  rw [carried m c 3 _ (by decide)]
  rfl

/-- The one write-back, after the last point, writes the loss. -/
theorem flushed_loss (c : Dev nD) (t : Fin cfg0.N) (hf : (cfg0.win 4).flush t = true) :
    (dats m 0 c).flushed 4 t
      = ((cfg0.win 4).blk t).view.read (Elt F) ((fun _ => loss m c) : Buf (Elt F) ((c : Thread nD τ).loc main_v4)) := by
  have hN : cfg0.N = 5 := N_0
  obtain rfl : t = last := Fin.ext (by have := (flush0_4 t).mp hf; have := t.isLt; show t.val = 4; omega)
  show (cfg0.win 4).cut (grid0.coords last) ((dats m 0 c).after 4 last) = _
  rw [after0_4]
  show (cfg0.win 4).cut (grid0.coords last) ((outsAt0 m c 4 last_lt).1) = _
  rw [staged]
  rfl

/-- So the kernel's one-word result array ends holding the loss. -/
theorem array_loss (c : Dev nD) :
    (dats m 0 c).arrAt 4 cfg0.N = ((fun _ => loss m c) : Buf (Elt F) ((c : Thread nD τ).loc main_v4)) :=
  (dats m 0 c).arrAt_eq_of_cover 4 _ (flushed_loss m c) fun i =>
    ⟨last, (flush0_4 last).mpr rfl, by
      show i ∈ ((View.whole main_v4).slice (win0_4.rect last)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-- No two of the region's arrays are one buffer. -/
theorem arrays_distinct : Function.Injective (Pipeline.arrRef spec0) := by decide

/-- The scalar the program returns is the loss: the trailing reshape reads the one-word result array. -/
theorem tail_loss (c : Dev nD) :
    Pipeline.afterTail₀ cfgs (dats m) 0 (V0 m) [hostOps1] c main_v5 = fun _ => loss m c := by
  unfold Pipeline.afterTail₀
  simp only [hostOps1, List.flatten_cons, List.flatten_nil, List.append_nil, StableHlo.after_cons, StableHlo.after_nil]
  refine (StableHlo.reshape_result ..).trans ?_
  funext i
  show shapeCast S_ (Pipeline.withArrays spec0 c (V0 m c) (fun w => (dats m 0 c).arrAt w cfg0.N) (Proc.devRef .tc main_v4)) _ i = _
  rw [show Pipeline.withArrays spec0 c (V0 m c) (fun w => (dats m 0 c).arrAt w cfg0.N) (Proc.devRef .tc main_v4) = fun _ => loss m c from
    (Pipeline.withArrays_arr spec0 arrays_distinct c _ _ 4).trans (array_loss m c)]
  rfl

/-- The run, read: the returned scalar is the loss, and the arguments are as launched. -/
theorem run : θ_run defs (onTc (τ := τ) (main (F := F))) ⟨m, fun _ => 0, ρ⟩ fun r => ∀ c : Dev nD,
      r.2.mem ((c : Thread nD τ).loc main_v5) = (fun _ => loss m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h.1 c).2 main_v5 (Pipeline.mem_restRefs_of main_v5 (by decide) (by decide))).trans (tail_loss m c), h.2 c⟩)
    (θ_run_and (run_main m ρ) (unchanged m ρ))

/-! ## The arrays the region reads, as the arguments reshaped -/

/-- The region's first array is the means, read as 50000 rows of 128. -/
theorem array_mu (c : Dev nD) : V m c main_v0 = shapeCast S50000x128 (m ((c : Thread nD τ).loc main_arg0)) shapeCasts_S6400000x1_S50000x128 := by
  unfold V V0
  simp only [hostOps0, List.flatten_cons, List.flatten_nil, List.append_nil]
  after_results
  rfl

/-- The region's second array is the log-variances, read as 50000 rows of 128. -/
theorem array_logvar (c : Dev nD) : V m c main_v1 = shapeCast S50000x128 (m ((c : Thread nD τ).loc main_arg1)) shapeCasts_S6400000x1_S50000x128 := by
  unfold V V0
  simp only [hostOps0, List.flatten_cons, List.flatten_nil, List.append_nil]
  after_results
  rfl

/-- The region's third array is the logits, read as 32 rows of 128. -/
theorem array_logit (c : Dev nD) : V m c main_v2 = shapeCast S32x128 (m ((c : Thread nD τ).loc main_arg2)) shapeCasts_S4096_S32x128 := by
  unfold V V0
  simp only [hostOps0, List.flatten_cons, List.flatten_nil, List.append_nil]
  after_results
  rfl

/-- The region's fourth array is the labels, read as 32 rows of 128. -/
theorem array_label (c : Dev nD) : V m c main_v3 = shapeCast S32x128 (m ((c : Thread nD τ).loc main_arg3)) shapeCasts_S4096_S32x128 := by
  unfold V V0
  simp only [hostOps0, List.flatten_cons, List.flatten_nil, List.append_nil]
  after_results
  rfl

end Cert.KernelIdeal.Value

end
-- ==== Proof.LossMath.lean ====
/-
  The mathematics of the loss over the extended reals, with no program in it: one sample's term of the divergence, why
  it is never plus infinity, and why a negative factor may then be taken out of a sum of such terms however they are
  grouped.
-/
module

public import Idealize.ShloMosaic.PureOps.Ideal
public import Idealize.ShloMosaic.PureOps.Ideal.Laws
public import Idealize.ShloMosaic.Lib.IdealHost

@[expose] public section

noncomputable section

open Idealize.ShloMosaic

namespace Cert.LossMath

/-- One sample's term without its constant: log-variance minus the mean squared minus the variance. -/
def term (x y : EReal) : EReal := y - x * x - Ideal.exp y

/-- One sample's whole term starts from one; adding the one first or last is the same. -/
theorem one_add_term (x y : EReal) : 1 + y - x * x - Ideal.exp y = 1 + term x y := by
  unfold term
  simp only [sub_eq_add_neg, add_assoc]

/-- The exponential is never below zero. -/
theorem exp_nonneg (y : EReal) : 0 ≤ Ideal.exp y := by
  induction y with
  | bot => simp
  | coe r => rw [Ideal.exp_coe]; exact_mod_cast (Real.exp_pos r).le
  | top => simp

/-- A square is never below zero. -/
theorem square_nonneg (x : EReal) : 0 ≤ x * x := by
  induction x with
  | bot => simp
  | coe r => rw [← EReal.coe_mul]; exact_mod_cast mul_self_nonneg r
  | top => simp

/-- Taking away something not below zero never reaches plus infinity from below it. -/
theorem sub_ne_top {a b : EReal} (ha : a ≠ ⊤) (hb : 0 ≤ b) : a - b ≠ ⊤ := by
  rw [sub_eq_add_neg]
  refine EReal.add_ne_top ha fun h => ?_
  rw [EReal.neg_eq_top_iff] at h
  subst h
  exact absurd hb (by simp)

/-- One sample's term is never plus infinity: where the log-variance is, so is the variance taken away. -/
theorem term_ne_top (x y : EReal) : term x y ≠ ⊤ := by
  unfold term
  by_cases hy : y = ⊤
  · subst hy
    rw [Ideal.exp_top, sub_eq_add_neg, EReal.neg_top, EReal.add_bot]
    exact bot_ne_top
  · exact sub_ne_top (sub_ne_top hy (square_nonneg x)) (exp_nonneg y)

/-- A whole term is never plus infinity either. -/
theorem one_add_term_ne_top (x y : EReal) : 1 + term x y ≠ ⊤ :=
  EReal.add_ne_top (EReal.coe_ne_top 1) (term_ne_top x y)

/-- A sum of terms none of which is plus infinity is not plus infinity. -/
theorem sum_ne_top {ι : Type} (s : Finset ι) (f : ι → EReal) (hf : ∀ i, f i ≠ ⊤) : ∑ i ∈ s, f i ≠ ⊤ := by
  classical
  induction s using Finset.induction_on with
  | empty => simp
  | insert a s ha ih => rw [Finset.sum_insert ha]; exact EReal.add_ne_top (hf a) ih

/-- A negative real factor distributes over a sum of two values neither of which is plus infinity. -/
theorem neg_mul_add {r : ℝ} (hr : r < 0) {a b : EReal} (ha : a ≠ ⊤) (hb : b ≠ ⊤) :
    (r : EReal) * (a + b) = r * a + r * b := by
  induction a with
  | top => exact absurd rfl ha
  | bot =>
    rw [EReal.bot_add, EReal.coe_mul_bot_of_neg hr, EReal.top_add_of_ne_bot]
    induction b with
    | top => exact absurd rfl hb
    | bot => rw [EReal.coe_mul_bot_of_neg hr]; exact top_ne_bot
    | coe y => rw [← EReal.coe_mul]; exact EReal.coe_ne_bot _
  | coe x =>
    induction b with
    | top => exact absurd rfl hb
    | bot =>
      rw [EReal.add_bot, EReal.coe_mul_bot_of_neg hr, ← EReal.coe_mul, EReal.add_top_of_ne_bot (EReal.coe_ne_bot _)]
    | coe y => rw [← EReal.coe_add, ← EReal.coe_mul, ← EReal.coe_mul, ← EReal.coe_mul, ← EReal.coe_add, mul_add]

/-- So a negative real factor distributes over any finite sum of such values. -/
theorem neg_mul_sum {r : ℝ} (hr : r < 0) {ι : Type} (s : Finset ι) (f : ι → EReal) (hf : ∀ i, f i ≠ ⊤) :
    (r : EReal) * ∑ i ∈ s, f i = ∑ i ∈ s, (r : EReal) * f i := by
  classical
  induction s using Finset.induction_on with
  | empty => simp
  | insert a s ha ih =>
    rw [Finset.sum_insert ha, Finset.sum_insert ha, neg_mul_add hr (hf a) (sum_ne_top s f hf), ih]

/-- THE REGROUPING. Samples `ι` fall into segments `κ`, each sample into exactly one (`seg`). Scaling each segment's sum
    of whole terms by a negative factor and adding the segments up is scaling the one sum of the constant-free terms
    plus the number of samples. -/
theorem regroup {r : ℝ} (hr : r < 0) {ι κ : Type} [Fintype ι] [Fintype κ] [DecidableEq κ] (seg : ι → κ)
    (f : ι → EReal) (hf : ∀ i, f i ≠ ⊤) :
    ∑ k, (r : EReal) * ∑ i ∈ Finset.univ.filter (fun i => seg i = k), (1 + f i)
      = r * (∑ i, f i + ((Fintype.card ι : ℕ) : EReal)) := by
  have h1 : ∀ i, 1 + f i ≠ ⊤ := fun i => EReal.add_ne_top (EReal.coe_ne_top 1) (hf i)
  rw [← neg_mul_sum hr _ _ fun k => sum_ne_top _ _ h1, Finset.sum_fiberwise, Finset.sum_add_distrib, Finset.sum_const,
    Finset.card_univ, nsmul_one, add_comm]

/-! ## The literals -/

/-- The factor of the divergence is minus one half. -/
theorem lit_neg_half : Ideal.ofBits .f32 0xBF000000#32 = ((-(1 / 2 : ℝ) : ℝ) : EReal) := by
  simp [Ideal.ofBits, Ideal.ieee, -EReal.coe_mul, -EReal.coe_neg]; norm_num

/-- The kernel's constant is the number of samples. -/
theorem lit_samples : Ideal.ofBits .f32 0x4AC35000#32 = ((6400000 : ℕ) : EReal) := by
  rw [show ((6400000 : ℕ) : EReal) = ((6400000 : ℝ) : EReal) by norm_cast]
  simp [Ideal.ofBits, Ideal.ieee, -EReal.coe_mul]; norm_num

end Cert.LossMath

end
-- ==== Proof.KernelSum.lean ====
/-
  The kernel's loss over the extended reals, as one formula of the arguments: the five accumulated block sums are one sum
  over every sample, and the last point's two quotients are read off.
-/
module

public import proofs.«01_k».proof.Proof.KernelValue
public import proofs.«01_k».proof.Proof.LossMath
public import Idealize.ShloMosaic.Lib.ValueIdxCore

@[expose] public section

noncomputable section

open Idealize.ShloMosaic Idealize.ShloMosaic.TcCoe Idealize.SL.Sem Idealize.ShloMosaic.ValueIdx

namespace Cert.LossMath

/-- One prediction's loss: the logistic loss of a logit against its label, in the form that never overflows. -/
def cross (l : EReal) (b : BitVec 32) : EReal :=
  max l 0 - l * FloatOps.sitofp (F := Ideal) .f32 b + Ideal.log1p (Ideal.exp (-FloatOps.absf (F := Ideal) (φ := .f32) l))

/-- Reading an array under another shape keeps the sum of its elements. -/
theorem sum_shapeCast {M : Type} [AddCommMonoid M] {s t : Shape} {α : Type} (x : s.Idx → α) (h : s.ShapeCasts t) (g : α → M) :
    ∑ j, g (shapeCast t x h j) = ∑ i, g (x i) :=
  Equiv.sum_comp (Shape.reshapeEquiv h) fun i => g (x i)

/-- The same of two arrays read together. -/
theorem sum_shapeCast₂ {M : Type} [AddCommMonoid M] {s t : Shape} {α β : Type} (x : s.Idx → α) (y : s.Idx → β)
    (h : s.ShapeCasts t) (g : α → β → M) :
    ∑ j, g (shapeCast t x h j) (shapeCast t y h j) = ∑ i, g (x i) (y i) :=
  Equiv.sum_comp (Shape.reshapeEquiv h) fun i => g (x i) (y i)

end Cert.LossMath

namespace Cert.KernelIdeal.Sum

open Cert.KernelIdeal Cert.KernelIdeal.Gen Cert.KernelIdeal.Value Cert.LossMath

/-- Row `r` of block `t`, as a row of the whole array. -/
def row (t : Fin 5) (i : S10000x128.Idx) : S50000x128.Idx :=
  ix2 (⟨t.val * 10000 + (i 0).val, by have h : (i 0).val < 10000 := (i 0).isLt; omega⟩ : Fin 50000) (i 1 : Fin 128)

/-- The five blocks of ten thousand rows are the fifty thousand rows. -/
theorem sum_rows {M : Type} [AddCommMonoid M] (g : S50000x128.Idx → M) : ∑ t : Fin 5, ∑ i, g (row t i) = ∑ j, g j := by
  rw [sum_idx2 g, ← Equiv.sum_comp (finProdFinEquiv (m := 5) (n := 10000)), Fintype.sum_prod_type]
  refine Finset.sum_congr rfl fun t _ => ?_
  rw [sum_idx2]
  refine Finset.sum_congr rfl fun r _ => Finset.sum_congr rfl fun l _ => congrArg g ?_
  funext a
  match a with
  | ⟨0, _⟩ => exact Fin.ext (show t.val * 10000 + r.val = r.val + 10000 * t.val by omega)
  | ⟨1, _⟩ => rfl

/-- A one-word shape has extent one. -/
theorem one_word : ∀ b, S1.size b = 1 := fun b => match b with | ⟨0, _⟩ => rfl

/-- Reading the one word of a one-word array shown as a three-axis array. -/
theorem extract_word (v : FVec Ideal S1 .f32) :
    extractAt ![0, 0, 0] (shapeCast S1x1x1 v shapeCasts_S1_S1x1x1) inpos_S1x1x1_p0_0_0 = v Block.word :=
  congrArg v (Block.word_only _)

/-- What one point adds to the accumulator: its block's sum of terms. -/
theorem pay1_eq (x y : FVec Ideal S10000x128 .f32) (a : EReal) :
    k0_pay1 (F := Ideal) x y a = a + ∑ i, term (x i) (y i) := by
  unfold k0_pay1
  dsimp only
  simp only [shapeCast_self]
  rw [extract_word]
  refine (congrArg (fun z : EReal => a + z) (Ideal.multiReduction_add_total (φ := .f32) _ 0x00000000#32
    reduces_S1x10000x128_S1 one_word (.inl rfl) rfl Block.word)).trans ?_
  exact congrArg (fun z : EReal => a + z) (sum_shapeCast _ _ fun z : EReal => z)

/-- What the last point makes of the accumulated sum. -/
theorem pay2_eq (l : FVec Ideal S32x128 .f32) (b : IVec S32x128 32) (a : EReal) :
    k0_pay2 (F := Ideal) l b a
      = Ideal.div (∑ i, cross (l i) (b i)) (Ideal.ofBits .f32 0x45800000#32)
        + Ideal.div (Ideal.ofBits .f32 0xBF000000#32 * (a + Ideal.ofBits .f32 0x4AC35000#32)) (Ideal.ofBits .f32 0x45800000#32) := by
  unfold k0_pay2
  dsimp only
  simp only [shapeCast_self]
  rw [extract_word]
  refine (congrArg (fun z : EReal => Ideal.div z (Ideal.ofBits .f32 0x45800000#32)
    + Ideal.div (Ideal.ofBits .f32 0xBF000000#32 * (a + Ideal.ofBits .f32 0x4AC35000#32)) (Ideal.ofBits .f32 0x45800000#32))
    (Ideal.multiReduction_add_total (φ := .f32) _ 0x00000000#32 reduces_S1x32x128_S1 one_word (.inl rfl) rfl Block.word)).trans ?_
  refine congrArg (fun z : EReal => Ideal.div z (Ideal.ofBits .f32 0x45800000#32)
    + Ideal.div (Ideal.ofBits .f32 0xBF000000#32 * (a + Ideal.ofBits .f32 0x4AC35000#32)) (Ideal.ofBits .f32 0x45800000#32)) ?_
  refine (sum_shapeCast _ _ fun z : EReal => z).trans (Finset.sum_congr rfl fun i _ => ?_)
  show max (l i) (Ideal.ofBits .f32 0x00000000#32) - l i * FloatOps.sitofp (F := Ideal) .f32 (b i)
    + Ideal.log1p (Ideal.exp (Ideal.ofBits .f32 0x00000000#32 - FloatOps.absf (F := Ideal) (φ := .f32) (l i))) = cross (l i) (b i)
  rw [Ideal.ofBits_zero_f32, sub_eq_add_neg (0 : EReal), zero_add]
  rfl

variable (m : (ℓ : Loc nD τ sig) → Buf (Elt Ideal) ℓ)

/-- The first two windows' index maps send grid point `t` to block row `t`. -/
theorem block_row (t : Fin cfg0.N) : (BitVec.ofNat 32 (grid0.coords t 0).val).toNat = t.val := by
  have ht : t.val < 5 := Nat.lt_of_lt_of_eq t.isLt N_0
  have e : (grid0.coords t 0).val = t.val / 1 % 5 := Pipeline.Grid.coords_val t 0 (by decide) rfl
  rw [e, BitVec.toNat_ofNat]
  omega

/-- Block `t` of the means' window reads its array at the rows of block `t`. -/
theorem block_mu (c : Dev nD) (t : Fin cfg0.N) (i : S10000x128.Idx) :
    (iblk m c 0 t : FVec Ideal S10000x128 .f32) i = V m c main_v0 (row (t.cast N_0) i) := by
  unfold iblk
  rw [View.read_apply]
  refine congrArg (V m c main_v0) (funext fun a => Fin.ext ?_)
  match a with
  | ⟨0, _⟩ =>
    show (BitVec.ofNat 32 (grid0.coords t 0).val).toNat * 10000 + 1 * (i 0).val = t.val * 10000 + (i 0).val
    rw [block_row]; omega
  | ⟨1, _⟩ =>
    show 0 * 128 + 1 * (i 1).val = (i 1).val
    omega

/-- Block `t` of the log-variances' window reads its array at the rows of block `t`. -/
theorem block_logvar (c : Dev nD) (t : Fin cfg0.N) (i : S10000x128.Idx) :
    (iblk m c 1 t : FVec Ideal S10000x128 .f32) i = V m c main_v1 (row (t.cast N_0) i) := by
  unfold iblk
  rw [View.read_apply]
  refine congrArg (V m c main_v1) (funext fun a => Fin.ext ?_)
  match a with
  | ⟨0, _⟩ =>
    show (BitVec.ofNat 32 (grid0.coords t 0).val).toNat * 10000 + 1 * (i 0).val = t.val * 10000 + (i 0).val
    rw [block_row]; omega
  | ⟨1, _⟩ =>
    show 0 * 128 + 1 * (i 1).val = (i 1).val
    omega

/-- The logits' window is its whole array. -/
theorem block_logit (c : Dev nD) (t : Fin cfg0.N) : (iblk m c 2 t : FVec Ideal S32x128 .f32) = V m c main_v2 := by
  funext i
  unfold iblk
  rw [View.read_apply]
  refine congrArg (V m c main_v2) (funext fun a => Fin.ext ?_)
  match a with
  | ⟨0, _⟩ => show 0 * 32 + 1 * (i 0).val = (i 0).val; omega
  | ⟨1, _⟩ => show 0 * 128 + 1 * (i 1).val = (i 1).val; omega

/-- The labels' window is its whole array. -/
theorem block_label (c : Dev nD) (t : Fin cfg0.N) : (iblk m c 3 t : IVec S32x128 32) = V m c main_v3 := by
  funext i
  unfold iblk
  rw [View.read_apply]
  refine congrArg (V m c main_v3) (funext fun a => Fin.ext ?_)
  match a with
  | ⟨0, _⟩ => show 0 * 32 + 1 * (i 0).val = (i 0).val; omega
  | ⟨1, _⟩ => show 0 * 128 + 1 * (i 1).val = (i 1).val; omega

/-- The sum over block `n`'s samples (nothing past the last block). -/
noncomputable def part (c : Dev nD) (n : ℕ) : EReal :=
  if h : n < 5 then ∑ i, term (V m c main_v0 (row ⟨n, h⟩ i)) (V m c main_v1 (row ⟨n, h⟩ i)) else 0

/-- One grid point adds its block's sum to the accumulator's word. -/
theorem pay1_block (c : Dev nD) (n : ℕ) (h : n < cfg0.N) (a : EReal) :
    k0_pay1 (F := Ideal) (iblk m c 0 ⟨n, h⟩) (iblk m c 1 ⟨n, h⟩) a = a + part m c n := by
  refine (pay1_eq _ _ a).trans (congrArg (fun z : EReal => a + z) ?_)
  unfold part
  rw [dif_pos (Nat.lt_of_lt_of_eq h N_0)]
  exact Finset.sum_congr rfl fun i _ => congrArg₂ term (block_mu m c ⟨n, h⟩ i) (block_logvar m c ⟨n, h⟩ i)

/-- After point `n` the accumulator holds the sum of the blocks so far. -/
theorem total_parts (c : Dev nD) : ∀ (n : ℕ) (h : n < cfg0.N), total m c n h = ∑ k ∈ Finset.range (n + 1), part m c k
  | 0, h => by
    rw [Finset.sum_range_one]
    refine (pay1_block m c 0 h _).trans ?_
    show Ideal.ofBits .f32 0x00000000#32 + _ = _
    rw [Ideal.ofBits_zero_f32, zero_add]
  | n + 1, h => by
    rw [Finset.sum_range_succ, ← total_parts c n (Nat.lt_of_succ_lt h)]
    exact pay1_block m c (n + 1) h _

/-- The accumulator's final word is the sum of every sample's term, over the samples as the program received them. -/
theorem total_eq (c : Dev nD) :
    total m c 4 last_lt
      = ∑ k, term ((m ((c : Thread nD τ).loc main_arg0) : FVec Ideal S6400000x1 .f32) k)
          ((m ((c : Thread nD τ).loc main_arg1) : FVec Ideal S6400000x1 .f32) k) := by
  have h0 : total m c 4 last_lt = ∑ t : Fin 5, ∑ i, term (V m c main_v0 (row t i)) (V m c main_v1 (row t i)) := by
    rw [total_parts, Finset.sum_range]
    refine Finset.sum_congr rfl fun t _ => ?_
    unfold part
    rw [dif_pos t.isLt]
  rw [h0, sum_rows fun j => term (V m c main_v0 j) (V m c main_v1 j), array_mu, array_logvar]
  exact sum_shapeCast₂ _ _ shapeCasts_S6400000x1_S50000x128 term

/-- The kernel's loss as one formula of the arguments. -/
theorem loss_eq (c : Dev nD) :
    loss m c
      = Ideal.div (∑ i, cross ((m ((c : Thread nD τ).loc main_arg2) : FVec Ideal S4096 .f32) i)
            ((m ((c : Thread nD τ).loc main_arg3) : IVec S4096 32) i)) (Ideal.ofBits .f32 0x45800000#32)
        + Ideal.div (Ideal.ofBits .f32 0xBF000000#32
            * ((∑ k, term ((m ((c : Thread nD τ).loc main_arg0) : FVec Ideal S6400000x1 .f32) k)
                ((m ((c : Thread nD τ).loc main_arg1) : FVec Ideal S6400000x1 .f32) k))
              + Ideal.ofBits .f32 0x4AC35000#32)) (Ideal.ofBits .f32 0x45800000#32) := by
  unfold loss
  rw [total_eq, block_logit, block_label, pay2_eq, array_logit, array_label]
  rw [sum_shapeCast₂ _ _ shapeCasts_S4096_S32x128 cross]
  rfl

end Cert.KernelIdeal.Sum

end
-- ==== Proof.RefValue.lean ====
/-
  The reference's loss over the extended reals, as one formula of the arguments: when every segment id lies in the table, the
  scattered sums together meet every sample once, so the ids drop out.
-/
module

public import proofs.«01_k».proof.Proof.Segments
public import proofs.«01_k».proof.Proof.KernelSum
public import proofs.«01_k».proof.Proof.Gen.ReferenceIdeal.Run

@[expose] public section

noncomputable section

namespace Cert.RefValue

open Idealize.ShloMosaic Idealize.ShloMosaic.ValueIdx Cert.ReferenceIdeal Cert.ReferenceIdeal.Gen Cert.Segments Cert.LossMath

/-- The samples number 6400000. -/
theorem samples : S6400000x1.numel = 6400000 := by decide

/-- The reference's per-sample updates. -/
abbrev upd (x y : FVec Ideal S6400000x1 .f32) : FVec Ideal S6400000x1 .f32 :=
  subf (subf (addf (broadcastInDim S6400000x1 ![] bcast_S_S6400000x1 (constant S_ .f32 0x3F800000#32)) y) (mulf x x)) (Host.exp y)

/-- One update is one plus the sample's term. -/
theorem upd_apply (x y : FVec Ideal S6400000x1 .f32) (j : S6400000x1.Idx) : upd x y j = 1 + term (x j) (y j) := by
  rw [← one_add_term]
  show broadcastInDim S6400000x1 ![] bcast_S_S6400000x1 (constant (F := Ideal) S_ .f32 0x3F800000#32) j + y j - x j * x j - Ideal.exp (y j) = _
  rw [broadcastInDim_scalar_apply]
  show Ideal.ofBits .f32 0x3F800000#32 + y j - x j * x j - Ideal.exp (y j) = _
  rw [Ideal.ofBits_one_f32]

/-- The table the reference scatters the updates into. -/
abbrev table (x y : FVec Ideal S6400000x1 .f32) (b : IVec S6400000 32) : FVec Ideal S4096x1 .f32 :=
  Host.scatterAdd scatter_S4096x1_S6400000x1_S6400000x1_1_0_0_1 (broadcastInDim S4096x1 ![] bcast_S_S4096x1 (constant S_ .f32 0x00000000#32))
    (broadcastInDim S6400000x1 ![0] bcast_S6400000_S6400000x1_0 b) (upd x y)

/-- A scatter-add into zeros whose updates land by the map `seg` and are one plus a value below `⊤`: the result's elements
    scaled by a negative factor add up to the factor times the values' sum plus the number of updates. -/
theorem scatter_total {s si su : Shape} {w : Nat} (d : ScatterDims s si su) (v : FVec Ideal s .f32) (idx : IVec si w)
    (u : FVec Ideal su .f32) (seg : su.Idx → s.Idx) (hs : ∀ j k, d.resultIdx? j idx = some k ↔ seg j = k) (hv : ∀ k, v k = 0)
    (f : su.Idx → EReal) (hu : ∀ j, u j = 1 + f j) (hf : ∀ j, f j ≠ ⊤) {r : ℝ} (hr : r < 0) :
    ∑ k, (r : EReal) * Host.scatterAdd d v idx u k = r * (∑ j, f j + ((su.numel : ℕ) : EReal)) := by
  rw [← Shape.card_idx, ← regroup hr seg f hf]
  refine Finset.sum_congr rfl fun k _ => congrArg (fun z : EReal => (r : EReal) * z) ?_
  show v k + ∑ j ∈ Finset.univ.filter (fun j => d.resultIdx? j idx = some k), u j = _
  rw [hv, zero_add]
  exact Finset.sum_congr (Finset.filter_congr fun j _ => hs j k) fun j _ => hu j

/-- The reference's sum over the table, with the ids gone. -/
theorem table_sum (x y : FVec Ideal S6400000x1 .f32) (b : IVec S6400000 32) (hb : InRange b) :
    ∑ k, Ideal.ofBits .f32 0xBF000000#32 * table x y b k
      = Ideal.ofBits .f32 0xBF000000#32 * (∑ j, term (x j) (y j) + Ideal.ofBits .f32 0x4AC35000#32) := by
  rw [lit_neg_half, lit_samples, ← samples]
  refine scatter_total _ _ _ _ (seg b hb) (lands b hb) (fun k => ?_) (fun j => term (x j) (y j)) (upd_apply x y) (fun j => term_ne_top _ _)
    (by norm_num)
  rw [broadcastInDim_scalar_apply]
  exact Ideal.ofBits_zero_f32

/-- One prediction's loss as the reference writes it. -/
theorem cross_apply (l : FVec Ideal S4096 .f32) (z : IVec S4096 32) (i : S4096.Idx) :
    addf (subf (maximumf l (broadcastInDim S4096 ![] bcast_S_S4096 (constant S_ .f32 0x00000000#32))) (mulf l (sitofp .f32 z)))
      (Host.log1p (Host.exp (Host.negf (Host.absf l)))) i = cross (l i) (z i) := by
  show max (l i) (broadcastInDim S4096 ![] bcast_S_S4096 (constant (F := Ideal) S_ .f32 0x00000000#32) i)
    - l i * FloatOps.sitofp (F := Ideal) .f32 (z i) + Ideal.log1p (Ideal.exp (-FloatOps.absf (F := Ideal) (φ := .f32) (l i))) = _
  rw [broadcastInDim_scalar_apply]
  show max (l i) (Ideal.ofBits .f32 0x00000000#32) - _ + _ = _
  rw [Ideal.ofBits_zero_f32]
  rfl

/-- The host's sum to a scalar from zero is the plain sum. -/
theorem sum_scalar {s : Shape} {axes : List (Fin s.rank)} (v : FVec Ideal s .f32) (h : s.ReducesTo axes S_) (j : S_.Idx) :
    Host.reduceAdd v (constant (F := Ideal) S_ .f32 0x00000000#32) h h_S_ j = ∑ i, v i := by
  rw [hostReduceAdd_apply, Ideal.hostReduceAdd_total h (fun b => b.elim0)]
  show Ideal.ofBits .f32 0x00000000#32 + _ = _
  rw [Ideal.ofBits_zero_f32, zero_add]

/-- Every row of a table scaled by the divergence's factor. -/
theorem scaled_apply (t : FVec Ideal S4096x1 .f32) (k : S4096x1.Idx) :
    mulf (broadcastInDim S4096x1 ![] bcast_S_S4096x1 (constant S_ .f32 0xBF000000#32)) t k = Ideal.ofBits .f32 0xBF000000#32 * t k := by
  show broadcastInDim S4096x1 ![] bcast_S_S4096x1 (constant (F := Ideal) S_ .f32 0xBF000000#32) k * t k = _
  rw [broadcastInDim_scalar_apply]
  rfl

/-- What the reference makes of the predictions, the labels and a table of sums. -/
abbrev result (l : FVec Ideal S4096 .f32) (z : IVec S4096 32) (t : FVec Ideal S4096x1 .f32) : FVec Ideal S_ .f32 :=
  addf (mulf (constant S_ .f32 0x3F800000#32) (Host.divf (Host.reduceAdd (addf (subf (maximumf l (broadcastInDim S4096 ![] bcast_S_S4096
      (constant S_ .f32 0x00000000#32))) (mulf l (sitofp .f32 z))) (Host.log1p (Host.exp (Host.negf (Host.absf l)))))
      (constant S_ .f32 0x00000000#32) reducesTo_S4096_S_d0 h_S_) (constant S_ .f32 0x45800000#32)))
    (mulf (constant S_ .f32 0x3F800000#32) (Host.divf (Host.reduceAdd (mulf (broadcastInDim S4096x1 ![] bcast_S_S4096x1
      (constant S_ .f32 0xBF000000#32)) t) (constant S_ .f32 0x00000000#32) reducesTo_S4096x1_S_d0_1 h_S_)
      (constant S_ .f32 0x45800000#32)))

/-- That result as a formula: the mean prediction loss plus the mean of the scaled rows. -/
theorem result_eq (l : FVec Ideal S4096 .f32) (z : IVec S4096 32) (t : FVec Ideal S4096x1 .f32) :
    result l z t = fun _ => Ideal.div (∑ i, cross (l i) (z i)) (Ideal.ofBits .f32 0x45800000#32)
      + Ideal.div (∑ k, Ideal.ofBits .f32 0xBF000000#32 * t k) (Ideal.ofBits .f32 0x45800000#32) := by
  funext j
  show Ideal.ofBits .f32 0x3F800000#32 * Ideal.div (Host.reduceAdd (F := Ideal) (φ := .f32) _ _ reducesTo_S4096_S_d0 h_S_ j) (Ideal.ofBits .f32 0x45800000#32)
    + Ideal.ofBits .f32 0x3F800000#32 * Ideal.div (Host.reduceAdd (F := Ideal) (φ := .f32) _ _ reducesTo_S4096x1_S_d0_1 h_S_ j) (Ideal.ofBits .f32 0x45800000#32) = _
  rw [Ideal.ofBits_one_f32, one_mul, one_mul, sum_scalar, sum_scalar]
  exact congrArg₂ (fun p q : EReal => Ideal.div p (Ideal.ofBits .f32 0x45800000#32) + Ideal.div q (Ideal.ofBits .f32 0x45800000#32))
    (Finset.sum_congr rfl fun i _ => cross_apply l z i) (Finset.sum_congr rfl fun k _ => scaled_apply t k)

/-- The reference's loss as one formula of the arguments, the one the kernel's loss is. -/
theorem value (x y : FVec Ideal S6400000x1 .f32) (l : FVec Ideal S4096 .f32) (z : IVec S4096 32) (b : IVec S6400000 32) (hb : InRange b) :
    result l z (table x y b)
      = fun _ => Ideal.div (∑ i, cross (l i) (z i)) (Ideal.ofBits .f32 0x45800000#32)
        + Ideal.div (Ideal.ofBits .f32 0xBF000000#32 * ((∑ k, term (x k) (y k)) + Ideal.ofBits .f32 0x4AC35000#32))
          (Ideal.ofBits .f32 0x45800000#32) := by
  rw [result_eq, table_sum x y b hb]

end Cert.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frame_kernel : Cert.quiescent_Kernel := fun m g _ => Cert.Kernel.Gen.frame m g

/-- So does its idealisation. -/
theorem frame_ideal : Cert.quiescent_KernelIdeal := fun m g _ => Cert.KernelIdeal.Gen.frame m g

/-- The reference declares no semaphore, so its run ends with every counter at zero. -/
theorem frame_reference : Cert.quiescent_ReferenceIdeal := fun m g _ =>
  θ_run_mono (Cert.ReferenceIdeal.Value.run m g) fun r hr => ⟨fun c => (hr c).2, sem_eq_zero_of_no_sems rfl _⟩

/-- Given segment ids in the table, the kernel and the reference end with the same loss. -/
theorem algebraic : Cert.algebraic_KernelIdeal_ReferenceIdeal_pre_segments_in_range
    (hPre_segments_in_range := Cert.Segments.pre_facts) := by
  intro m g m' g' hpre hagree
  refine ⟨fun c _ => Cert.KernelIdeal.Value.loss m c, Cert.KernelIdeal.Value.run m g,
    θ_run_mono (Cert.ReferenceIdeal.Value.run m' g') fun r hr c => ⟨?_, (hr c).2⟩⟩
  obtain ⟨h0, h1, h2, h3, h4⟩ := hagree c
  haveI := Cert.Segments.pre_facts
  have hb := Cert.Segments.inRange_of_pre _ _ _ _ _ (hpre c)
  rw [(hr c).1, h0, h1, h2, h3, h4]
  refine (Cert.RefValue.value _ _ _ _ _ hb).trans (funext fun _ => ?_)
  exact (Cert.KernelIdeal.Sum.loss_eq m c).symm

/-- Everything the certificate claims; the two frames under the precondition follow from those without it. -/
theorem claim : Cert.Claim :=
  ⟨Cert.Kernel.Gen.facts, Cert.KernelIdeal.Gen.facts, Cert.ReferenceIdeal.Gen.facts, Cert.Segments.pre_facts,
    frame_kernel, frame_ideal, fun m g _ => frame_ideal m g trivial, frame_reference, fun m g _ => frame_reference m g trivial,
    trivial, algebraic⟩

end Cert.Proof

end
